-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_labels_in_range [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_labels_in_range [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel)
    ∧ quiescent_KernelIdeal (hKernelIdeal := hKernelIdeal)
    ∧ quiescent_KernelIdeal_pre_labels_in_range (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal_pre_labels_in_range (hKernelIdeal := hKernelIdeal) (hReferenceIdeal := hReferenceIdeal) (hPre_labels_in_range := hPre_labels_in_range)
-- ==== Pre_labels_in_range.lean ====
abbrev S16384x1024 : Shape := ⟨2, ![16384, 1024]⟩
abbrev S16384 : Shape := ⟨1, ![16384]⟩
abbrev S64x512 : Shape := ⟨2, ![64, 512]⟩
abbrev S1536x1 : Shape := ⟨2, ![1536, 1]⟩
abbrev S1 : Shape := ⟨1, ![1]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : FVec F S16384x1024 .f32) (main_arg1 : IVec S16384 32) (main_arg2 : IVec S16384 32) (main_arg3 : FVec F S64x512 .f32) (main_arg4 : FVec F S1536x1 .f32) (main_arg5 : FVec F S1 .f32) : IVec S16384 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 64#32
  let main_v2 : IVec S16384 32 := broadcastInDim S16384 ![] bcast_S_S16384 main_c_0
  let main_v3 : IVec S16384 1 := cmpi .slt main_arg1 main_v2
  let main_v4 : IVec S16384 1 := andi main_v1 main_v3
  main_v4
-- ==== Kernel.lean ====
abbrev S16384x1024 : Shape := ⟨2, ![16384, 1024]⟩
abbrev S16384 : Shape := ⟨1, ![16384]⟩
abbrev S64x512 : Shape := ⟨2, ![64, 512]⟩
abbrev S1536x1 : Shape := ⟨2, ![1536, 1]⟩
abbrev S1 : Shape := ⟨1, ![1]⟩
abbrev S8x1x2048 : Shape := ⟨3, ![8, 1, 2048]⟩
abbrev S1x1 : Shape := ⟨2, ![1, 1]⟩
abbrev S16x1024 : Shape := ⟨2, ![16, 1024]⟩
abbrev S2048x1024 : Shape := ⟨2, ![2048, 1024]⟩
abbrev S1x1x2048 : Shape := ⟨3, ![1, 1, 2048]⟩
abbrev S16x1 : Shape := ⟨2, ![16, 1]⟩
abbrev S1x2048 : Shape := ⟨2, ![1, 2048]⟩
abbrev S512x1 : Shape := ⟨2, ![512, 1]⟩
abbrev S1024x1 : Shape := ⟨2, ![1024, 1]⟩
abbrev S64x1 : Shape := ⟨2, ![64, 1]⟩
abbrev S64x2048 : Shape := ⟨2, ![64, 2048]⟩
abbrev S16x2048 : Shape := ⟨2, ![16, 2048]⟩
abbrev S16 : Shape := ⟨1, ![16]⟩
abbrev S2048 : Shape := ⟨1, ![2048]⟩

abbrev nBuf : Space → Nat
  | .hbm => 10
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S16384, .i32⟩
  | .hbm, ⟨3, _⟩ => ⟨S64x512, .f32⟩
  | .hbm, ⟨4, _⟩ => ⟨S1536x1, .f32⟩
  | .hbm, ⟨5, _⟩ => ⟨S1, .f32⟩
  | .hbm, ⟨6, _⟩ => ⟨S8x1x2048, .i32⟩
  | .hbm, ⟨7, _⟩ => ⟨S8x1x2048, .i32⟩
  | .hbm, ⟨8, _⟩ => ⟨S1x1, .f32⟩
  | .hbm, ⟨9, _⟩ => ⟨S16x1024, .f32⟩
  | .local _ .vmem, ⟨0, _⟩ => ⟨S2048x1024, .f32⟩
  | .local _ .vmem, ⟨1, _⟩ => ⟨S2048x1024, .f32⟩
  | .local _ .vmem, ⟨2, _⟩ => ⟨S1x1x2048, .i32⟩
  | .local _ .vmem, ⟨3, _⟩ => ⟨S1x1x2048, .i32⟩
  | .local _ .vmem, ⟨4, _⟩ => ⟨S1x1x2048, .i32⟩
  | .local _ .vmem, ⟨5, _⟩ => ⟨S1x1x2048, .i32⟩
  | .local _ .vmem, ⟨6, _⟩ => ⟨S64x512, .f32⟩
  | .local _ .vmem, ⟨7, _⟩ => ⟨S1536x1, .f32⟩
  | .local _ .vmem, ⟨8, _⟩ => ⟨S1x1, .f32⟩
  | .local _ .vmem, ⟨9, _⟩ => ⟨S16x1024, .f32⟩
  | .local _ .vmem, ⟨10, _⟩ => ⟨S16x1024, .f32⟩
  | .local _ .vmem, ⟨11, _⟩ => ⟨S16x1, .f32⟩
  | .local _ .vmem, ⟨12, _⟩ => ⟨S16x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v75 : BitVec 1 := Scalar.cmpi .eq arg0 c7_i32
  let v76 : BitVec 32 := Scalar.extui v75
  let c0_i32_37 : BitVec 32 := 0#32
  let v77 : BitVec 1 := Scalar.cmpi .ne v76 c0_i32_37
  v77

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16384x1024 : Shape := ⟨2, ![16384, 1024]⟩
abbrev S16384 : Shape := ⟨1, ![16384]⟩
abbrev S64x512 : Shape := ⟨2, ![64, 512]⟩
abbrev S1536x1 : Shape := ⟨2, ![1536, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x512 : Shape := ⟨2, ![16384, 512]⟩
abbrev S16384x1536 : Shape := ⟨2, ![16384, 1536]⟩
abbrev S16 : Shape := ⟨1, ![16]⟩
abbrev S1x16 : Shape := ⟨2, ![1, 16]⟩
abbrev S16384x16 : Shape := ⟨2, ![16384, 16]⟩
abbrev S16x1024 : Shape := ⟨2, ![16, 1024]⟩

abbrev nBuf : Space → Nat
  | .hbm => 92
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S16384, .i32⟩
  | .hbm, ⟨3, _⟩ => ⟨S64x512, .f32⟩
  | .hbm, ⟨4, _⟩ => ⟨S1536x1, .f32⟩
  | .hbm, ⟨5, _⟩ => ⟨S1, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S1, .i32⟩
  | .hbm, ⟨15, _⟩ => ⟨S_, .i32⟩
  | .hbm, ⟨16, _⟩ => ⟨S16384x1, .i32⟩
  | .hbm, ⟨17, _⟩ => ⟨S16384x1, .i1⟩
  | .hbm, ⟨18, _⟩ => ⟨S1x1, .i32⟩
  | .hbm, ⟨19, _⟩ => ⟨S16384x1, .i32⟩
  | .hbm, ⟨20, _⟩ => ⟨S16384x1, .i1⟩
  | .hbm, ⟨21, _⟩ => ⟨S16384x1, .i1⟩
  | .hbm, ⟨22, _⟩ => ⟨S_, .i1⟩
  | .hbm, ⟨23, _⟩ => ⟨S16384, .i1⟩
  | .hbm, ⟨24, _⟩ => ⟨S16384x512, .f32⟩
  | .hbm, ⟨25, _⟩ => ⟨S16384x512, .i1⟩
  | .hbm, ⟨26, _⟩ => ⟨S_, .f32⟩
  | .hbm, ⟨27, _⟩ => ⟨S16384x512, .f32⟩
  | .hbm, ⟨28, _⟩ => ⟨S16384x512, .f32⟩
  | .hbm, ⟨29, _⟩ => ⟨S16384x1536, .f32⟩
  | .hbm, ⟨30, _⟩ => ⟨S16384x1, .f32⟩
  | .hbm, ⟨31, _⟩ => ⟨S1x1, .f32⟩
  | .hbm, ⟨32, _⟩ => ⟨S16384x1, .f32⟩
  | .hbm, ⟨33, _⟩ => ⟨S16384x1, .f32⟩
  | .hbm, ⟨34, _⟩ => ⟨S16384, .f32⟩
  | .hbm, ⟨35, _⟩ => ⟨S16384x1, .i32⟩
  | .hbm, ⟨36, _⟩ => ⟨S16, .i32⟩
  | .hbm, ⟨37, _⟩ => ⟨S1x16, .i32⟩
  | .hbm, ⟨38, _⟩ => ⟨S16384x16, .i32⟩
  | .hbm, ⟨39, _⟩ => ⟨S16384x16, .i32⟩
  | .hbm, ⟨40, _⟩ => ⟨S16384x16, .i1⟩
  | .hbm, ⟨41, _⟩ => ⟨S16384x1, .f32⟩
  | .hbm, ⟨42, _⟩ => ⟨S_, .f32⟩
  | .hbm, ⟨43, _⟩ => ⟨S_, .f32⟩
  | .hbm, ⟨44, _⟩ => ⟨S16384x16, .f32⟩
  | .hbm, ⟨45, _⟩ => ⟨S16384x16, .f32⟩
  | .hbm, ⟨46, _⟩ => ⟨S16384x16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .i1⟩
  | .hbm, ⟨53, _⟩ => ⟨S_, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .i32⟩
  | .hbm, ⟨58, _⟩ => ⟨S16384, .i32⟩
  | .hbm, ⟨59, _⟩ => ⟨S16384, .i1⟩
  | .hbm, ⟨60, _⟩ => ⟨S_, .i32⟩
  | .hbm, ⟨61, _⟩ => ⟨S16384, .i32⟩
  | .hbm, ⟨62, _⟩ => ⟨S16384, .i32⟩
  | .hbm, ⟨63, _⟩ => ⟨S16384, .i32⟩
  | .hbm, ⟨64, _⟩ => ⟨S16384x1, .i32⟩
  | .hbm, ⟨65, _⟩ => ⟨S16384, .f32⟩
  | .hbm, ⟨66, _⟩ => ⟨S16384, .f32⟩
  | .hbm, ⟨67, _⟩ => ⟨S16384, .f32⟩
  | .hbm, ⟨68, _⟩ => ⟨S_, .f32⟩
  | .hbm, ⟨69, _⟩ => ⟨S16, .f32⟩
  | .hbm, ⟨70, _⟩ => ⟨S16384x1, .i32⟩
  | .hbm, ⟨71, _⟩ => ⟨S16, .f32⟩
  | .hbm, ⟨72, _⟩ => ⟨S_, .i32⟩
  | .hbm, ⟨73, _⟩ => ⟨S16384, .i32⟩
  | .hbm, ⟨74, _⟩ => ⟨S16384, .i1⟩
  | .hbm, ⟨75, _⟩ => ⟨S_, .i32⟩
  | .hbm, ⟨76, _⟩ => ⟨S16384, .i32⟩
  | .hbm, ⟨77, _⟩ => ⟨S16384, .i32⟩
  | .hbm, ⟨78, _⟩ => ⟨S16384, .i32⟩
  | .hbm, ⟨79, _⟩ => ⟨S16384x1, .i32⟩
  | .hbm, ⟨80, _⟩ => ⟨S16384, .f32⟩
  | .hbm, ⟨81, _⟩ => ⟨S_, .f32⟩
  | .hbm, ⟨82, _⟩ => ⟨S16384, .f32⟩
  | .hbm, ⟨83, _⟩ => ⟨S16384, .f32⟩
  | .hbm, ⟨84, _⟩ => ⟨S16384, .f32⟩
  | .hbm, ⟨85, _⟩ => ⟨S16384x1, .f32⟩
  | .hbm, ⟨86, _⟩ => ⟨S16384x1024, .f32⟩
  | .hbm, ⟨87, _⟩ => ⟨S16384x1024, .f32⟩
  | .hbm, ⟨88, _⟩ => ⟨S_, .f32⟩
  | .hbm, ⟨89, _⟩ => ⟨S16x1024, .f32⟩
  | .hbm, ⟨90, _⟩ => ⟨S16384x1, .i32⟩
  | .hbm, ⟨91, _⟩ => ⟨S16x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v14 : Ref sig .tc := ⟨.hbm, 46, rfl⟩
abbrev main_cst_0 : Ref sig .tc := ⟨.hbm, 47, rfl⟩
abbrev main_v15 : Ref sig .tc := ⟨.hbm, 48, rfl⟩
abbrev main_v16 : Ref sig .tc := ⟨.hbm, 49, rfl⟩
abbrev main_cst_1 : Ref sig .tc := ⟨.hbm, 50, rfl⟩
abbrev main_v17 : Ref sig .tc := ⟨.hbm, 51, rfl⟩
abbrev main_v18 : Ref sig .tc := ⟨.hbm, 52, rfl⟩
abbrev main_cst_2 : Ref sig .tc := ⟨.hbm, 53, rfl⟩
abbrev main_call2_v0 : Ref sig .tc := ⟨.hbm, 54, rfl⟩
abbrev main_call2_v1 : Ref sig .tc := ⟨.hbm, 55, rfl⟩
abbrev main_v19 : Ref sig .tc := ⟨.hbm, 56, rfl⟩
abbrev main_c : Ref sig .tc := ⟨.hbm, 57, rfl⟩
abbrev main_v20 : Ref sig .tc := ⟨.hbm, 58, rfl⟩
abbrev main_v21 : Ref sig .tc := ⟨.hbm, 59, rfl⟩
abbrev main_c_3 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_4 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_c_5 : Ref sig .tc := ⟨.hbm, 72, rfl⟩
abbrev main_v32 : Ref sig .tc := ⟨.hbm, 73, rfl⟩
abbrev main_v33 : Ref sig .tc := ⟨.hbm, 74, rfl⟩
abbrev main_c_6 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_7 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_cst_8 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩

abbrev nD : Nat := 1
abbrev τ : Topo := Topo.v7x

variable {F : FTy → Type} [FloatOps F]
-- ==== Proof.Steps.lean ====
/- What one grid point of the kernel leaves in its carried scratch buffers and in its output block, as the kernel's
   own arithmetic over the point's input blocks and over what the point before left. -/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Pool

open Cert.KernelIdeal Cert.KernelIdeal.Gen Idealize.ShloMosaic Idealize.ShloMosaic.TcCoe Idealize.SL.Sem

variable (m : (ℓ : Loc nD τ sig) → Buf (Elt Ideal) ℓ)

/-- The scores of the rows of tile `t`. -/
abbrev scores (c : Dev nD) (t : Fin cfg0.N) : FVec Ideal S1x2048 .f32 :=
  k0_pay5 (iblk m c 0 t) (iblk m c 2 t) (iblk m c 4 t) (iblk m c 3 t) (iblk m c 5 t)

/-- The membership matrix of tile `t`: one where the row belongs to the segment, zero elsewhere. -/
abbrev member (c : Dev nD) (t : Fin cfg0.N) : FVec Ideal S16x2048 .f32 := k0_pay7 (iblk m c 1 t)

/-- Per segment, the largest score among tile `t`'s rows of that segment. -/
abbrev tileMax (c : Dev nD) (t : Fin cfg0.N) : FVec Ideal S16x1 .f32 :=
  k0_pay8 (iblk m c 0 t) (iblk m c 1 t) (iblk m c 2 t) (iblk m c 4 t) (iblk m c 3 t) (iblk m c 5 t)

/-- The running maximum after tile `t`, over the maximum `M` before it. -/
abbrev nextMax (c : Dev nD) (t : Fin cfg0.N) (M : FVec Ideal S16x1 .f32) : FVec Ideal S16x1 .f32 :=
  k0_pay11 (tileMax m c t) M

/-- The running denominator after tile `t`, over the maximum `M` and the denominator `D` before it. -/
abbrev nextDen (c : Dev nD) (t : Fin cfg0.N) (M D : FVec Ideal S16x1 .f32) : FVec Ideal S16x1 .f32 :=
  k0_pay13 (scores m c t) (member m c t) (tileMax m c t) M D

/-- The running numerator after tile `t`, over the maximum `M` and the numerator `A` before it. -/
abbrev nextNum (c : Dev nD) (t : Fin cfg0.N) (M : FVec Ideal S16x1 .f32) (A : FVec Ideal S16x1024 .f32) :
    FVec Ideal S16x1024 .f32 :=
  k0_pay14 (iblk m c 0 t) (scores m c t) (member m c t) (tileMax m c t) M A

/-- The first tile leaves the running maximum as one update of minus infinity. -/
theorem max_first (c : Dev nD) (t : Fin cfg0.N) (h0 : t.val % 8 = 0) (h1 : ¬t.val % 8 = 7) :
    (outsAt0 m c t.val t.isLt).2.2.1 = nextMax m c t (k0_pay3 (F := Ideal)) := by
  rw [outsAt0_A m c t h0 h1]; frame_out

/-- The first tile leaves the running denominator as one update of zero. -/
theorem den_first (c : Dev nD) (t : Fin cfg0.N) (h0 : t.val % 8 = 0) (h1 : ¬t.val % 8 = 7) :
    (outsAt0 m c t.val t.isLt).2.2.2 = nextDen m c t (k0_pay3 (F := Ideal)) (k0_pay4 (F := Ideal)) := by
  rw [outsAt0_A m c t h0 h1]; frame_out

/-- The first tile leaves the running numerator as one update of zero. -/
theorem num_first (c : Dev nD) (t : Fin cfg0.N) (h0 : t.val % 8 = 0) (h1 : ¬t.val % 8 = 7) :
    (outsAt0 m c t.val t.isLt).2.1 = nextNum m c t (k0_pay3 (F := Ideal)) (k0_pay2 (F := Ideal)) := by
  rw [outsAt0_A m c t h0 h1]; frame_out

/-- A tile in the middle updates the running maximum that the tile before it left. -/
theorem max_mid (c : Dev nD) (t : Fin cfg0.N) (h0 : ¬t.val % 8 = 0) (h1 : ¬t.val % 8 = 7) :
    (outsAt0 m c t.val t.isLt).2.2.1 =
      nextMax m c t (outsAt0 m c (t.val - 1) (Nat.lt_of_le_of_lt (Nat.sub_le _ _) t.isLt)).2.2.1 := by
  rw [outsAt0_B m c t h0 h1]; frame_out; simp only [read_unread_whole]

/-- A tile in the middle updates the running denominator that the tile before it left. -/
theorem den_mid (c : Dev nD) (t : Fin cfg0.N) (h0 : ¬t.val % 8 = 0) (h1 : ¬t.val % 8 = 7) :
    (outsAt0 m c t.val t.isLt).2.2.2 =
      nextDen m c t (outsAt0 m c (t.val - 1) (Nat.lt_of_le_of_lt (Nat.sub_le _ _) t.isLt)).2.2.1
        (outsAt0 m c (t.val - 1) (Nat.lt_of_le_of_lt (Nat.sub_le _ _) t.isLt)).2.2.2 := by
  rw [outsAt0_B m c t h0 h1]; frame_out; simp only [read_unread_whole]

/-- A tile in the middle updates the running numerator that the tile before it left. -/
theorem num_mid (c : Dev nD) (t : Fin cfg0.N) (h0 : ¬t.val % 8 = 0) (h1 : ¬t.val % 8 = 7) :
    (outsAt0 m c t.val t.isLt).2.1 =
      nextNum m c t (outsAt0 m c (t.val - 1) (Nat.lt_of_le_of_lt (Nat.sub_le _ _) t.isLt)).2.2.1
        (outsAt0 m c (t.val - 1) (Nat.lt_of_le_of_lt (Nat.sub_le _ _) t.isLt)).2.1 := by
  rw [outsAt0_B m c t h0 h1]; frame_out; simp only [read_unread_whole]

/-- The last tile writes out the updated numerator over the updated denominator plus the small constant. -/
theorem out_last (c : Dev nD) (t : Fin cfg0.N) (h0 : ¬t.val % 8 = 0) (h1 : t.val % 8 = 7) :
    (outsAt0 m c t.val t.isLt).1 =
      k0_pay1 (F := Ideal)
        (nextNum m c t (outsAt0 m c (t.val - 1) (Nat.lt_of_le_of_lt (Nat.sub_le _ _) t.isLt)).2.2.1
          (outsAt0 m c (t.val - 1) (Nat.lt_of_le_of_lt (Nat.sub_le _ _) t.isLt)).2.1)
        (nextDen m c t (outsAt0 m c (t.val - 1) (Nat.lt_of_le_of_lt (Nat.sub_le _ _) t.isLt)).2.2.1
          (outsAt0 m c (t.val - 1) (Nat.lt_of_le_of_lt (Nat.sub_le _ _) t.isLt)).2.2.2) := by
  rw [outsAt0_C m c t h0 h1]; frame_out; simp only [read_unread_whole]

end Cert.Pool
-- ==== Proof.Softmax.lean ====
/- The arithmetic of a softmax-weighted sum accumulated block by block, over the extended reals. -/
module

public import Idealize.ShloMosaic.PureOps.Ideal

@[expose] public section

noncomputable section

namespace Cert.Pool

open Idealize.ShloMosaic

/-- The maximum that the exponentials are taken against: a maximum over nothing counts as zero. -/
def shift (M : EReal) : EReal := if M = ⊥ then 0 else M

/-- The factor that carries sums taken against the maximum `M` to the larger maximum `M'`. -/
def carry (M M' : EReal) : EReal := if M = ⊥ then 0 else Ideal.exp (M - M')

theorem exp_bot : Ideal.exp ⊥ = 0 := rfl

theorem exp_top : Ideal.exp ⊤ = ⊤ := rfl

theorem exp_coe (r : ℝ) : Ideal.exp (r : EReal) = ((Real.exp r : ℝ) : EReal) := rfl

/-- The exponential is never negative. -/
theorem exp_nonneg (x : EReal) : 0 ≤ Ideal.exp x := by
  induction x with
  | bot => exact le_rfl
  | top => exact le_top
  | coe r => rw [exp_coe]; exact_mod_cast (Real.exp_pos r).le

/-- The exponential is finite away from plus infinity. -/
theorem exp_ne_top {x : EReal} (h : x ≠ ⊤) : Ideal.exp x ≠ ⊤ := by
  induction x with
  | bot => simp [exp_bot]
  | top => exact absurd rfl h
  | coe r => rw [exp_coe]; exact EReal.coe_ne_top _

/-- The difference of a value and a bound of it is never plus infinity. -/
theorem sub_ne_top {a b : EReal} (h : a ≤ b) : a - b ≠ ⊤ := by
  induction b with
  | bot => rw [le_bot_iff.mp h]; simp
  | top => rw [EReal.sub_top]; simp
  | coe r =>
    induction a with
    | bot => simp
    | top => simp at h
    | coe s => rw [← EReal.coe_sub]; exact EReal.coe_ne_top _

theorem carry_nonneg (M M' : EReal) : 0 ≤ carry M M' := by
  unfold carry; split_ifs
  · exact le_rfl
  · exact exp_nonneg _

theorem carry_ne_top {M M' : EReal} (h : M ≤ M') : carry M M' ≠ ⊤ := by
  unfold carry; split_ifs
  · simp
  · exact exp_ne_top (sub_ne_top h)

/-- An exponential taken against `M` and carried to `M'` is the exponential taken against `M'`. -/
theorem exp_carry {s M M' : EReal} (hs : s ≤ M) (hM : M ≤ M') :
    Ideal.exp (s - shift M) * carry M M' = Ideal.exp (s - shift M') := by
  unfold shift carry
  induction M with
  | bot =>
    rw [le_bot_iff.mp hs]
    simp only [if_true, mul_zero]
    split_ifs <;> simp [exp_bot]
  | top =>
    rw [top_le_iff.mp hM]
    simp [exp_bot]
  | coe r =>
    rw [if_neg (EReal.coe_ne_bot r), if_neg (EReal.coe_ne_bot r)]
    induction M' with
    | bot => simp at hM
    | top => simp [exp_bot]
    | coe r' =>
      rw [if_neg (EReal.coe_ne_bot r')]
      induction s with
      | bot => simp [exp_bot]
      | top => simp at hs
      | coe s =>
        simp only [← EReal.coe_sub, exp_coe, ← EReal.coe_mul, ← Real.exp_add]
        congr 2; ring

/-- A finite factor that is not negative distributes over a sum from the right. -/
theorem sum_mul_of_finite {ι : Type} (S : Finset ι) (f : ι → EReal) {c : EReal} (h0 : 0 ≤ c) (h : c ≠ ⊤) :
    (∑ i ∈ S, f i) * c = ∑ i ∈ S, f i * c := by
  classical
  induction S using Finset.induction_on with
  | empty => simp
  | insert a S ha ih =>
    rw [Finset.sum_insert ha, Finset.sum_insert ha, EReal.right_distrib_of_nonneg_of_ne_top h0 h, ih]

/-- The weighted sum taken against the maximum `M` and divided by its denominator: over rows whose largest score is
    `M`, it is the sum of the rows weighted by their normalized exponentials, where the exponentials may be taken
    against zero instead of an infinite maximum. -/
theorem pooled_eq {ι : Type} (S : Finset ι) (s x : ι → EReal) (M ε : EReal) (hM : S.sup s = M)
    (h0 : 0 < ε) (hε : ε ≠ ⊤) (z : EReal) (hz : z = if M = ⊥ ∨ M = ⊤ then 0 else M) :
    Ideal.div (∑ i ∈ S, Ideal.exp (s i - shift M) * x i) ((∑ i ∈ S, Ideal.exp (s i - shift M)) + ε)
      = ∑ i ∈ S, Ideal.div (Ideal.exp (s i - z)) ((∑ i ∈ S, Ideal.exp (s i - z)) + ε) * x i := by
  have hle : ∀ i ∈ S, s i ≤ M := fun i hi => hM ▸ Finset.le_sup hi
  have hsum0 : ∀ y : EReal, 0 ≤ ∑ i ∈ S, Ideal.exp (s i - y) := fun y => Finset.sum_nonneg fun i _ => exp_nonneg _
  have hden : ∀ y : EReal, (∑ i ∈ S, Ideal.exp (s i - y)) + ε ≠ 0 := fun y =>
    (lt_of_lt_of_le h0 (le_add_of_nonneg_left (hsum0 y))).ne'
  simp only [Ideal.div, if_neg (hden _)]
  induction M with
  | bot =>
    subst hz
    have hb : ∀ i ∈ S, s i = ⊥ := fun i hi => le_bot_iff.mp (hle i hi)
    rw [Finset.sum_eq_zero fun i hi => by rw [hb i hi]; simp [shift, exp_bot],
      Finset.sum_eq_zero (s := S) (f := fun i => _ * x i) fun i hi => by rw [hb i hi]; simp [exp_bot]]
    simp
  | top =>
    subst hz
    have hl : (∑ i ∈ S, Ideal.exp (s i - shift ⊤) * x i) = 0 := Finset.sum_eq_zero fun i hi => by simp [shift, exp_bot]
    have hne : S.Nonempty := by
      rcases S.eq_empty_or_nonempty with rfl | h
      · simp at hM
      · exact h
    obtain ⟨j, hj, hjM⟩ := Finset.exists_mem_eq_sup S hne s
    have hd : (∑ i ∈ S, Ideal.exp (s i - 0)) = ⊤ := by
      refine top_le_iff.mp (le_trans ?_ (Finset.single_le_sum (f := fun i => Ideal.exp (s i - 0)) (fun i _ => exp_nonneg _) hj))
      rw [← hjM, hM]; simp [exp_top]
    have hd' : (⊤ : EReal) + ε = ⊤ := EReal.top_add_of_ne_bot h0.ne_bot
    rw [hl, zero_mul]
    simp only [true_or, or_true, if_true, hd, hd', EReal.inv_top, mul_zero, zero_mul, Finset.sum_const_zero]
  | coe r =>
    have hr : shift (r : EReal) = r := if_neg (EReal.coe_ne_bot r)
    rw [if_neg (by simp)] at hz
    rw [hr, hz]
    have hfin : ∀ i ∈ S, Ideal.exp (s i - (r : EReal)) ≠ ⊤ := fun i hi => exp_ne_top (sub_ne_top (hle i hi))
    set D := (∑ i ∈ S, Ideal.exp (s i - (r : EReal))) + ε with hD
    have hDpos : 0 < D := lt_of_lt_of_le h0 (le_add_of_nonneg_left (hsum0 _))
    have hi0 : 0 ≤ D⁻¹ := EReal.inv_nonneg_of_nonneg hDpos.le
    have hit : D⁻¹ ≠ ⊤ := by
      induction hDD : D with
      | bot => simp
      | top => simp
      | coe d => rw [← EReal.coe_inv]; exact EReal.coe_ne_top _
    rw [sum_mul_of_finite S _ hi0 hit]
    exact Finset.sum_congr rfl fun i _ => by rw [mul_assoc, mul_comm (x i), ← mul_assoc]

end Cert.Pool
-- ==== Proof.Tile.lean ====
/- What one tile of the kernel computes, element by element, over any input blocks. -/
module

public import proofs.«01_k».proof.Proof.Gen.KernelIdeal.Skeleton
public import proofs.«01_k».proof.Proof.Softmax
public import Idealize.ShloMosaic.Lib.Pointwise

@[expose] public section

set_option maxRecDepth 16384

noncomputable section

namespace Cert.Pool

open Cert.KernelIdeal Cert.KernelIdeal.Gen Idealize.ShloMosaic Idealize.SL.Sem

/-! ## Constants and indicators -/

/-- The bit pattern of minus infinity. -/
theorem ofBits_negInf : Ideal.ofBits .f32 0xFF800000#32 = ⊥ := by
  simp [Ideal.ofBits, Ideal.ieee]

/-- The small constant added to the denominators. -/
def eps : EReal := Ideal.ofBits .f32 0x3089705F#32

/-- The small constant is a positive real number. -/
theorem eps_real : ∃ r : ℝ, 0 < r ∧ eps = (r : EReal) := by
  refine ⟨9007199 * (2 : ℝ) ^ (-53 : ℤ), by positivity, ?_⟩
  unfold eps
  simp only [Ideal.ofBits, Ideal.ieee]
  rw [show (BitVec.extractLsb' 23 8 (0x3089705F#32)).toNat = 97 by decide,
    show (BitVec.extractLsb' 0 23 (0x3089705F#32)).toNat = 618591 by decide,
    show (BitVec.extractLsb' (8 + 23) 1 (0x3089705F#32) == 1#1) = false by decide]
  norm_num

/-- The small constant is positive. -/
theorem eps_pos : 0 < eps := by
  obtain ⟨r, h, e⟩ := eps_real
  rw [e]; exact_mod_cast h

/-- The small constant is finite. -/
theorem eps_ne_top : eps ≠ ⊤ := by
  obtain ⟨r, _, e⟩ := eps_real
  rw [e]; exact EReal.coe_ne_top _

/-- A one-bit comparison, widened and converted to a float, is one where the words agree and zero elsewhere. -/
theorem indicator_eq (a b : BitVec 32) :
    (FloatOps.sitofp .f32 (BitVec.setWidth 32 (IntOp.cmpi .eq a b)) : Ideal .f32) = (if a = b then (1 : EReal) else 0) := by
  by_cases h : a = b
  · subst h
    rw [if_pos rfl]
    show (((BitVec.setWidth 32 (IntOp.cmpi .eq a a)).toInt : ℝ) : EReal) = 1
    simp [IntOp.cmpi]
  · rw [if_neg h]
    show (((BitVec.setWidth 32 (IntOp.cmpi .eq a b)).toInt : ℝ) : EReal) = 0
    rw [show IntOp.cmpi .eq a b = 0#1 from by simp [IntOp.cmpi, beq_eq_false_iff_ne.mpr h]]
    simp

/-- A selection on an equality of words. -/
theorem select_eq {α : Type} (a b : BitVec 32) (x y : α) :
    Scalar.select (IntOp.cmpi .eq a b) x y = if a = b then x else y := by
  by_cases h : a = b
  · simp [Scalar.select, IntOp.cmpi, h]
  · simp [Scalar.select, IntOp.cmpi, h, beq_eq_false_iff_ne.mpr h]

/-- A maximum folded from minus infinity over the rows that satisfy `p`, the others counting as minus infinity. -/
theorem fold_max_eq_sup {ι : Type} [Fintype ι] (p : ι → Prop) [DecidablePred p] (f : ι → EReal) :
    Finset.univ.fold max ⊥ (fun i => if p i then f i else ⊥) = (Finset.univ.filter p).sup f := by
  classical
  have h : ∀ S : Finset ι, S.fold max ⊥ (fun i => if p i then f i else ⊥) = (S.filter p).sup f := by
    intro S
    induction S using Finset.induction_on with
    | empty => simp
    | insert a S ha ih =>
      rw [Finset.fold_insert ha, ih, Finset.filter_insert]
      by_cases h : p a
      · rw [if_pos h, if_pos h, Finset.sup_insert]
      · rw [if_neg h, if_neg h]; exact max_eq_right bot_le
  exact h _

/-! ## One tile -/

/-- The score of row `n` of a tile: the row against the lower part of the weights, the label's row of the table
    against the upper part, and the bias. -/
def tileScore (x : Vec Ideal S2048x1024 .f32) (lbl : Vec Ideal S1x1x2048 .i32) (W : Vec Ideal S1536x1 .f32)
    (lt : Vec Ideal S64x512 .f32) (b : Vec Ideal S1x1 .f32) (n : Fin 2048) : EReal :=
  (∑ k : Fin 1024, (W (ix2 ⟨512 + k.val, by omega⟩ 0) : EReal) * x (ix2 n k))
    + (∑ l : Fin 64, (∑ k : Fin 512, (lt (ix2 l k) : EReal) * W (ix2 ⟨k.val, by omega⟩ 0))
        * (if (lbl (ix3 0 0 n) : BitVec 32) = BitVec.ofNat 32 l.val then 1 else 0))
    + b (ix2 0 0)

/-- The rows of a tile that belong to segment `g`. -/
def tileRows (seg : Vec Ideal S1x1x2048 .i32) (g : Fin 16) : Finset (Fin 2048) :=
  Finset.univ.filter fun n => (seg (ix3 0 0 n) : BitVec 32) = BitVec.ofNat 32 g.val

/-- The kernel's score of a row. -/
theorem score_apply (x : Vec Ideal S2048x1024 .f32) (lbl : Vec Ideal S1x1x2048 .i32) (W : Vec Ideal S1536x1 .f32)
    (lt : Vec Ideal S64x512 .f32) (b : Vec Ideal S1x1 .f32) (n : Fin 2048) :
    k0_pay5 (F := Ideal) x lbl W lt b (ix2 0 n) = tileScore x lbl W lt b n := by
  unfold k0_pay5 tileScore
  pointwise
  simp only [indicator_eq]

/-- The kernel's membership matrix. -/
theorem member_apply (seg : Vec Ideal S1x1x2048 .i32) (g : Fin 16) (n : Fin 2048) :
    k0_pay7 (F := Ideal) seg (ix2 g n) = if (seg (ix3 0 0 n) : BitVec 32) = BitVec.ofNat 32 g.val then (1 : EReal) else 0 := by
  unfold k0_pay7 k0_pay6
  pointwise
  exact indicator_eq _ _

/-- The kernel's maximum over a tile's rows of one segment. -/
theorem tileMax_apply (x : Vec Ideal S2048x1024 .f32) (seg lbl : Vec Ideal S1x1x2048 .i32) (W : Vec Ideal S1536x1 .f32)
    (lt : Vec Ideal S64x512 .f32) (b : Vec Ideal S1x1 .f32) (g : Fin 16) :
    k0_pay8 (F := Ideal) x seg lbl W lt b (ix2 g 0) = (tileRows seg g).sup (tileScore x lbl W lt b) := by
  unfold k0_pay8 k0_pay6
  pointwise
  simp only [select_eq, ofBits_negInf, score_apply]
  exact fold_max_eq_sup _ _

/-- The running maximum after a tile. -/
theorem nextMax_apply (tm M : FVec Ideal S16x1 .f32) (g : Fin 16) :
    k0_pay11 (F := Ideal) tm M (ix2 g 0) = max (M (ix2 g 0) : EReal) (tm (ix2 g 0)) := by
  unfold k0_pay11 k0_pay9
  pointwise

/-- The weight of row `n` in segment `g`: zero where the row is not the segment's. -/
theorem weight_apply (s : FVec Ideal S1x2048 .f32) (seg : Vec Ideal S1x1x2048 .i32) (tm M : FVec Ideal S16x1 .f32)
    (g : Fin 16) (n : Fin 2048) :
    k0_pay12 (F := Ideal) s (k0_pay7 seg) tm M (ix2 g n)
      = if (seg (ix3 0 0 n) : BitVec 32) = BitVec.ofNat 32 g.val
        then Ideal.exp ((s (ix2 0 n) : EReal) - shift (max (M (ix2 g 0) : EReal) (tm (ix2 g 0)))) else 0 := by
  unfold k0_pay12 k0_pay9
  pointwise
  simp only [member_apply, ofBits_negInf]
  split_ifs with h
  · rw [one_mul, Finset.sum_eq_single g]
    · rw [if_pos h, one_mul]; rfl
    · intro g' _ hg
      rw [if_neg, zero_mul]
      rw [h]; intro e
      apply hg
      have := congrArg BitVec.toNat e
      simp only [BitVec.toNat_ofNat] at this
      apply Fin.ext; have := g.isLt; have := g'.isLt; omega
    · intro h'; exact absurd (Finset.mem_univ _) h'
  · exact zero_mul _

/-- The running denominator after a tile. -/
theorem nextDen_apply (s : FVec Ideal S1x2048 .f32) (seg : Vec Ideal S1x1x2048 .i32) (tm M D : FVec Ideal S16x1 .f32)
    (g : Fin 16) :
    k0_pay13 (F := Ideal) s (k0_pay7 seg) tm M D (ix2 g 0)
      = (D (ix2 g 0) : EReal) * carry (M (ix2 g 0)) (max (M (ix2 g 0) : EReal) (tm (ix2 g 0)))
        + ∑ n ∈ tileRows seg g,
            Ideal.exp ((s (ix2 0 n) : EReal) - shift (max (M (ix2 g 0) : EReal) (tm (ix2 g 0)))) := by
  unfold k0_pay13 k0_pay10 k0_pay9
  pointwise
  simp only [weight_apply, ofBits_negInf]
  rw [tileRows, Finset.sum_filter]; rfl

/-- The running numerator after a tile. -/
theorem nextNum_apply (x : Vec Ideal S2048x1024 .f32) (s : FVec Ideal S1x2048 .f32) (seg : Vec Ideal S1x1x2048 .i32)
    (tm M : FVec Ideal S16x1 .f32) (A : FVec Ideal S16x1024 .f32) (g : Fin 16) (j : Fin 1024) :
    k0_pay14 (F := Ideal) x s (k0_pay7 seg) tm M A (ix2 g j)
      = (A (ix2 g j) : EReal) * carry (M (ix2 g 0)) (max (M (ix2 g 0) : EReal) (tm (ix2 g 0)))
        + ∑ n ∈ tileRows seg g,
            Ideal.exp ((s (ix2 0 n) : EReal) - shift (max (M (ix2 g 0) : EReal) (tm (ix2 g 0)))) * x (ix2 n j) := by
  unfold k0_pay14 k0_pay10 k0_pay9
  pointwise
  simp only [weight_apply, ofBits_negInf, ite_mul, zero_mul]
  rw [tileRows, Finset.sum_filter]; rfl

/-- What is written out: numerator over denominator plus the small constant. -/
theorem out_apply (A : FVec Ideal S16x1024 .f32) (D : FVec Ideal S16x1 .f32) (g : Fin 16) (j : Fin 1024) :
    k0_pay1 (F := Ideal) A D (ix2 g j) = Ideal.div (A (ix2 g j)) ((D (ix2 g 0) : EReal) + eps) := by
  unfold k0_pay1 eps
  pointwise

/-- The running maximum starts at minus infinity. -/
theorem startMax_apply (g : Fin 16) : k0_pay3 (F := Ideal) (ix2 g 0) = (⊥ : EReal) := by
  unfold k0_pay3
  pointwise
  exact ofBits_negInf

/-- The running denominator starts at zero. -/
theorem startDen_apply (g : Fin 16) : k0_pay4 (F := Ideal) (ix2 g 0) = (0 : EReal) := by
  unfold k0_pay4
  pointwise

/-- The running numerator starts at zero. -/
theorem startNum_apply (g : Fin 16) (j : Fin 1024) : k0_pay2 (F := Ideal) (ix2 g j) = (0 : EReal) := by
  unfold k0_pay2
  pointwise

end Cert.Pool
-- ==== Proof.Blocks.lean ====
/- The kernel's input blocks, element by element, as reads of the launched arguments: tile `t` holds the rows
   `2048 * t` to `2048 * t + 2047`, and the small operands whole. -/
module

public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.Pool

open Cert.KernelIdeal Cert.KernelIdeal.Gen Idealize.ShloMosaic Idealize.ShloMosaic.TcCoe Idealize.SL.Sem

variable (m : (ℓ : Loc nD τ sig) → Buf (Elt Ideal) ℓ)

/-- Row `n` of tile `t`, as a row of the whole array. -/
def row (t : Fin cfg0.N) (n : Fin 2048) : Fin 16384 :=
  ⟨2048 * t.val + n.val, by have := lt_of_lt_of_eq t.isLt (show cfg0.N = 8 from N_0); omega⟩

/-- Where every window's block lies, at every grid point. -/
theorem block_index : ∀ t : Fin cfg0.N,
    win0_0.index t = ![t.val, 0] ∧ win0_1.index t = ![t.val, 0, 0] ∧ win0_2.index t = ![t.val, 0, 0]
      ∧ win0_3.index t = ![0, 0] ∧ win0_4.index t = ![0, 0] ∧ win0_5.index t = ![0, 0] := by
  decide +kernel

/-- The tile's rows of the node embeddings. -/
theorem node_block (c : Dev nD) (t : Fin cfg0.N) (n : Fin 2048) (j : Fin 1024) :
    iblk m c 0 t (ix2 n j) = m ((c : Thread nD τ).loc main_arg0) (ix2 (row t n) j) := by
  unfold row
  blk_ext [iblk, V, block_index t]

/-- The tile's segment numbers. -/
theorem seg_block (c : Dev nD) (t : Fin cfg0.N) (n : Fin 2048) :
    iblk m c 1 t (ix3 0 0 n) = m ((c : Thread nD τ).loc main_arg2) (ix1 (row t n)) := by
  unfold row
  blk_ext! [iblk, block_index t]

/-- The tile's labels. -/
theorem label_block (c : Dev nD) (t : Fin cfg0.N) (n : Fin 2048) :
    iblk m c 2 t (ix3 0 0 n) = m ((c : Thread nD τ).loc main_arg1) (ix1 (row t n)) := by
  unfold row
  blk_ext! [iblk, block_index t]

/-- The label table. -/
theorem table_block (c : Dev nD) (t : Fin cfg0.N) (l : Fin 64) (k : Fin 512) :
    iblk m c 3 t (ix2 l k) = m ((c : Thread nD τ).loc main_arg3) (ix2 l k) := by
  blk_ext [iblk, V, block_index t]

/-- The weights. -/
theorem weight_block (c : Dev nD) (t : Fin cfg0.N) (k : Fin 1536) :
    iblk m c 4 t (ix2 k 0) = m ((c : Thread nD τ).loc main_arg4) (ix2 k 0) := by
  blk_ext [iblk, V, block_index t]

/-- The bias. -/
theorem bias_block (c : Dev nD) (t : Fin cfg0.N) :
    iblk m c 5 t (ix2 0 0) = m ((c : Thread nD τ).loc main_arg5) (ix1 0) := by
  blk_ext! [iblk, block_index t]

end Cert.Pool
-- ==== Proof.Rows.lean ====
/- The score of a row and the rows of a segment, over the argument arrays: what both programs' results are stated with. -/
module

public import proofs.«01_k».proof.KernelIdeal
public import Idealize.ShloMosaic.PureOps.Ideal
public import Idealize.ShloMosaic.Lib.Pointwise

@[expose] public section

noncomputable section

namespace Cert.Pool

open Cert.KernelIdeal Idealize.ShloMosaic

/-- The score of row `r`: the row of the node embeddings against the lower part of the weights, the row's label's
    row of the table against the upper part, and the bias. -/
def rowScore (x : Vec Ideal S16384x1024 .f32) (lbl : Vec Ideal S16384 .i32) (lt : Vec Ideal S64x512 .f32)
    (W : Vec Ideal S1536x1 .f32) (b : Vec Ideal S1 .f32) (r : Fin 16384) : EReal :=
  (∑ k : Fin 1024, (W (ix2 ⟨512 + k.val, by omega⟩ 0) : EReal) * x (ix2 r k))
    + (∑ l : Fin 64, (∑ k : Fin 512, (lt (ix2 l k) : EReal) * W (ix2 ⟨k.val, by omega⟩ 0))
        * (if (lbl (ix1 r) : BitVec 32) = BitVec.ofNat 32 l.val then 1 else 0))
    + b (ix1 0)

/-- The rows of segment `g`. -/
def segRows (seg : Vec Ideal S16384 .i32) (g : Fin 16) : Finset (Fin 16384) :=
  Finset.univ.filter fun r => (seg (ix1 r) : BitVec 32) = BitVec.ofNat 32 g.val

end Cert.Pool
-- ==== Proof.Fold.lean ====
/- What the kernel's output array holds: per segment, the sum of the rows weighted by their exponentials against the
   segment's largest score, over the sum of those exponentials plus the small constant. -/
module

public import proofs.«01_k».proof.Proof.Steps
public import proofs.«01_k».proof.Proof.Tile
public import proofs.«01_k».proof.Proof.Blocks
public import proofs.«01_k».proof.Proof.Rows

@[expose] public section

set_option maxRecDepth 16384

noncomputable section

namespace Cert.Pool

open Cert.KernelIdeal Cert.KernelIdeal.Gen Idealize.ShloMosaic Idealize.ShloMosaic.TcCoe Idealize.SL.Sem

variable (m : (ℓ : Loc nD τ sig) → Buf (Elt Ideal) ℓ)

/-! ## Rows of the whole array -/

/-- The score of row `r`. -/
abbrev score (c : Dev nD) (r : Fin 16384) : EReal :=
  rowScore (m ((c : Thread nD τ).loc main_arg0)) (m ((c : Thread nD τ).loc main_arg1)) (m ((c : Thread nD τ).loc main_arg3))
    (m ((c : Thread nD τ).loc main_arg4)) (m ((c : Thread nD τ).loc main_arg5)) r

/-- The element of the node embeddings at row `r` and column `j`. -/
def nodeAt (c : Dev nD) (r : Fin 16384) (j : Fin 1024) : EReal := m ((c : Thread nD τ).loc main_arg0) (ix2 r j)

/-- The rows of segment `g` among the first `n` tiles. -/
def rowsUpTo (c : Dev nD) (g : Fin 16) (n : ℕ) : Finset (Fin 16384) :=
  Finset.univ.filter fun r => r.val < 2048 * n ∧ (m ((c : Thread nD τ).loc main_arg2) (ix1 r) : BitVec 32) = BitVec.ofNat 32 g.val

/-- The rows of segment `g` in tile `t`. -/
abbrev rowsIn (c : Dev nD) (t : Fin cfg0.N) (g : Fin 16) : Finset (Fin 2048) := tileRows (iblk m c 1 t) g

/-- Distinct rows of a tile are distinct rows of the array. -/
theorem row_injective (t : Fin cfg0.N) : Function.Injective (row t) := fun a b h => by
  have e := congrArg Fin.val h
  simp only [row] at e
  exact Fin.ext (by omega)

/-- No rows come before the first tile. -/
theorem rowsUpTo_zero (c : Dev nD) (g : Fin 16) : rowsUpTo m c g 0 = ∅ := by
  unfold rowsUpTo
  exact Finset.filter_eq_empty_iff.mpr fun r _ h => by omega

/-- The rows among the first `t + 1` tiles are those among the first `t` and those of tile `t`. -/
theorem rowsUpTo_succ (c : Dev nD) (g : Fin 16) (t : Fin cfg0.N) :
    rowsUpTo m c g (t.val + 1) = rowsUpTo m c g t.val ∪ (rowsIn m c t g).image (row t) := by
  ext r
  simp only [rowsUpTo, rowsIn, tileRows, Finset.mem_union, Finset.mem_filter, Finset.mem_univ, true_and,
    Finset.mem_image, seg_block]
  constructor
  · rintro ⟨h, e⟩
    by_cases h' : r.val < 2048 * t.val
    · exact Or.inl ⟨h', e⟩
    · have hr : row t ⟨r.val - 2048 * t.val, by omega⟩ = r := Fin.ext (by simp only [row]; omega)
      exact Or.inr ⟨⟨r.val - 2048 * t.val, by omega⟩, by rw [hr]; exact e, hr⟩
  · rintro (⟨h, e⟩ | ⟨n, e, rfl⟩)
    · exact ⟨by omega, e⟩
    · exact ⟨by have := n.isLt; simp only [row]; omega, e⟩

/-- The two parts share no row. -/
theorem rowsUpTo_disjoint (c : Dev nD) (g : Fin 16) (t : Fin cfg0.N) :
    Disjoint (rowsUpTo m c g t.val) ((rowsIn m c t g).image (row t)) := by
  rw [Finset.disjoint_left]
  intro r h h'
  obtain ⟨n, _, rfl⟩ := Finset.mem_image.mp h'
  have := (Finset.mem_filter.mp h).2.1
  simp only [row] at this
  omega

/-- A sum over the first `t + 1` tiles' rows splits off tile `t`. -/
theorem sum_rowsUpTo_succ (c : Dev nD) (g : Fin 16) (t : Fin cfg0.N) (f : Fin 16384 → EReal) :
    ∑ r ∈ rowsUpTo m c g (t.val + 1), f r = ∑ r ∈ rowsUpTo m c g t.val, f r + ∑ n ∈ rowsIn m c t g, f (row t n) := by
  rw [rowsUpTo_succ, Finset.sum_union (rowsUpTo_disjoint m c g t), Finset.sum_image fun a _ b _ h => row_injective t h]

/-- A maximum over the first `t + 1` tiles' rows splits off tile `t`. -/
theorem sup_rowsUpTo_succ (c : Dev nD) (g : Fin 16) (t : Fin cfg0.N) (f : Fin 16384 → EReal) :
    (rowsUpTo m c g (t.val + 1)).sup f = max ((rowsUpTo m c g t.val).sup f) ((rowsIn m c t g).sup fun n => f (row t n)) := by
  rw [rowsUpTo_succ, Finset.sup_union, Finset.sup_image]; rfl

/-! ## One tile, by rows of the whole array -/

/-- The score of a row of a tile is the score of the row of the array. -/
theorem tileScore_row (c : Dev nD) (t : Fin cfg0.N) (n : Fin 2048) :
    tileScore (iblk m c 0 t) (iblk m c 2 t) (iblk m c 4 t) (iblk m c 3 t) (iblk m c 5 t) n = score m c (row t n) := by
  unfold tileScore score rowScore
  simp only [node_block, label_block, table_block, weight_block, bias_block]

/-- The scores of a tile. -/
theorem scores_row (c : Dev nD) (t : Fin cfg0.N) (n : Fin 2048) :
    scores m c t (ix2 0 n) = score m c (row t n) :=
  (score_apply _ _ _ _ _ _).trans (tileScore_row m c t n)

/-- The maximum over a tile's rows of a segment. -/
theorem tileMax_row (c : Dev nD) (t : Fin cfg0.N) (g : Fin 16) :
    tileMax m c t (ix2 g 0) = (rowsIn m c t g).sup fun n => score m c (row t n) :=
  (tileMax_apply _ _ _ _ _ _ _).trans (Finset.sup_congr rfl fun n _ => tileScore_row m c t n)

/-! ## The carried state -/

/-- The largest score of segment `g` among the first `n` tiles. -/
def maxUpTo (c : Dev nD) (g : Fin 16) (n : ℕ) : EReal := (rowsUpTo m c g n).sup (score m c)

/-- The weight of row `r` against the largest score of segment `g` among the first `n` tiles. -/
def weightUpTo (c : Dev nD) (g : Fin 16) (n : ℕ) (r : Fin 16384) : EReal :=
  Ideal.exp (score m c r - shift (maxUpTo m c g n))

/-- The carried state after `n` tiles: per segment, the largest score, the sum of the weights, and the weighted sum of
    the rows, over the rows of the first `n` tiles. -/
structure Carried (c : Dev nD) (n : ℕ) (M D : FVec Ideal S16x1 .f32) (A : FVec Ideal S16x1024 .f32) : Prop where
  max : ∀ g, M (ix2 g 0) = maxUpTo m c g n
  den : ∀ g, D (ix2 g 0) = ∑ r ∈ rowsUpTo m c g n, weightUpTo m c g n r
  num : ∀ g j, A (ix2 g j) = ∑ r ∈ rowsUpTo m c g n, weightUpTo m c g n r * nodeAt m c r j

/-- The start values are the state before any tile. -/
theorem carried_start (c : Dev nD) :
    Carried m c 0 (k0_pay3 (F := Ideal)) (k0_pay4 (F := Ideal)) (k0_pay2 (F := Ideal)) where
  max g := by rw [startMax_apply, maxUpTo, rowsUpTo_zero, Finset.sup_empty]
  den g := by rw [startDen_apply, rowsUpTo_zero, Finset.sum_empty]
  num g j := by rw [startNum_apply, rowsUpTo_zero, Finset.sum_empty]

/-- The largest score grows with the tiles. -/
theorem maxUpTo_succ (c : Dev nD) (g : Fin 16) (t : Fin cfg0.N) :
    Max.max (maxUpTo m c g t.val) ((rowsIn m c t g).sup fun n => score m c (row t n)) = maxUpTo m c g (t.val + 1) :=
  (sup_rowsUpTo_succ m c g t _).symm

/-- The carry factor takes the weight of an earlier row to its weight after the next tile. -/
theorem weight_carry (c : Dev nD) (g : Fin 16) (t : Fin cfg0.N) (r : Fin 16384) (hr : r ∈ rowsUpTo m c g t.val) :
    weightUpTo m c g t.val r * carry (maxUpTo m c g t.val) (maxUpTo m c g (t.val + 1)) = weightUpTo m c g (t.val + 1) r :=
  exp_carry (Finset.le_sup (f := score m c) hr) (by rw [← maxUpTo_succ]; exact le_max_left _ _)

/-- The carry factor distributes over sums. -/
theorem sum_carry (c : Dev nD) (g : Fin 16) (t : Fin cfg0.N) (S : Finset (Fin 16384)) (f : Fin 16384 → EReal) :
    (∑ r ∈ S, f r) * carry (maxUpTo m c g t.val) (maxUpTo m c g (t.val + 1))
      = ∑ r ∈ S, f r * carry (maxUpTo m c g t.val) (maxUpTo m c g (t.val + 1)) :=
  sum_mul_of_finite _ _ (carry_nonneg _ _) (carry_ne_top (by rw [← maxUpTo_succ]; exact le_max_left _ _))

/-- One tile takes the state after `t` tiles to the state after `t + 1`. -/
theorem carried_step (c : Dev nD) (t : Fin cfg0.N) {M D : FVec Ideal S16x1 .f32} {A : FVec Ideal S16x1024 .f32}
    (h : Carried m c t.val M D A) :
    Carried m c (t.val + 1) (nextMax m c t M) (nextDen m c t M D) (nextNum m c t M A) where
  max g := by rw [nextMax, nextMax_apply, tileMax_row, h.max, maxUpTo_succ]
  den g := by
    rw [nextDen, member, nextDen_apply, tileMax_row, h.max, maxUpTo_succ, h.den, sum_carry, sum_rowsUpTo_succ]
    refine congrArg₂ (· + ·) (Finset.sum_congr rfl fun r hr => weight_carry m c g t r hr)
      (Finset.sum_congr rfl fun n _ => ?_)
    rw [scores_row]; rfl
  num g j := by
    rw [nextNum, member, nextNum_apply, tileMax_row, h.max, maxUpTo_succ, h.num, sum_carry, sum_rowsUpTo_succ]
    refine congrArg₂ (· + ·) (Finset.sum_congr rfl fun r hr => ?_) (Finset.sum_congr rfl fun n _ => ?_)
    · rw [← weight_carry m c g t r hr, mul_right_comm]
    · rw [scores_row, node_block]; rfl

/-- The carried scratch after tile `n`, before the last tile. -/
theorem carried_at (c : Dev nD) : ∀ (n : ℕ) (h : n < cfg0.N), n < 7 →
    Carried m c (n + 1) (outsAt0 m c n h).2.2.1 (outsAt0 m c n h).2.2.2 (outsAt0 m c n h).2.1
  | 0, h, _ => by
    have e := carried_step m c ⟨0, h⟩ (carried_start m c)
    rw [← max_first m c ⟨0, h⟩ rfl (Nat.zero_ne_add_one 6), ← den_first m c ⟨0, h⟩ rfl (Nat.zero_ne_add_one 6),
      ← num_first m c ⟨0, h⟩ rfl (Nat.zero_ne_add_one 6)] at e
    exact e
  | n + 1, h, h7 => by
    have e := carried_step m c ⟨n + 1, h⟩ (carried_at c n (by omega) (by omega))
    have h0 : ¬(n + 1) % 8 = 0 := by omega
    have h1 : ¬(n + 1) % 8 = 7 := by omega
    have em := max_mid m c ⟨n + 1, h⟩ h0 h1
    have ed := den_mid m c ⟨n + 1, h⟩ h0 h1
    have en := num_mid m c ⟨n + 1, h⟩ h0 h1
    rw [em, ed, en]
    exact e

/-! ## The output -/

/-- What the last tile writes out, element by element. -/
theorem out_carried (c : Dev nD) (t : Fin cfg0.N) (h0 : ¬t.val % 8 = 0) (h1 : t.val % 8 = 7) {p : ℕ} (hp : t.val - 1 = p)
    (hpN : p < cfg0.N)
    (h : Carried m c t.val (outsAt0 m c p hpN).2.2.1 (outsAt0 m c p hpN).2.2.2 (outsAt0 m c p hpN).2.1)
    (g : Fin 16) (j : Fin 1024) :
    (outsAt0 m c t.val t.isLt).1 (ix2 g j)
      = Ideal.div (∑ r ∈ rowsUpTo m c g (t.val + 1), weightUpTo m c g (t.val + 1) r * nodeAt m c r j)
          ((∑ r ∈ rowsUpTo m c g (t.val + 1), weightUpTo m c g (t.val + 1) r) + eps) := by
  subst hp
  have e := carried_step m c t h
  rw [out_last m c t h0 h1, out_apply, e.num, e.den]

/-- After eight tiles every row has been read. -/
theorem rowsUpTo_eight (c : Dev nD) (g : Fin 16) :
    rowsUpTo m c g 8 = segRows (m ((c : Thread nD τ).loc main_arg2)) g := by
  unfold rowsUpTo segRows
  exact Finset.filter_congr fun r _ => ⟨fun h => h.2, fun h => ⟨by omega, h⟩⟩

/-- The array after the run is what the last tile writes out. -/
theorem array_last (c : Dev nD) (h : 7 < cfg0.N) : Value.G6 m c = (outsAt0 m c 7 h).1 :=
  (Value.G6_last m c).trans (congrArg Prod.fst (Value.outsAt0_sweep m c 7 h).symm)

/-- What the last tile writes out, over all rows of the segment. -/
theorem out_value (c : Dev nD) (t : Fin cfg0.N) (ht : t.val = 7) (g : Fin 16) (j : Fin 1024) :
    (outsAt0 m c t.val t.isLt).1 (ix2 g j)
      = Ideal.div (∑ r ∈ rowsUpTo m c g 8, weightUpTo m c g 8 r * nodeAt m c r j)
          ((∑ r ∈ rowsUpTo m c g 8, weightUpTo m c g 8 r) + eps) := by
  have hp : t.val - 1 < cfg0.N := Nat.lt_of_le_of_lt (Nat.sub_le _ _) t.isLt
  have hc := carried_at m c (t.val - 1) hp (by omega)
  rw [show t.val - 1 + 1 = t.val by omega] at hc
  have e := out_carried m c t (by omega) (by omega) rfl hp hc g j
  rw [show t.val + 1 = 8 by omega] at e
  exact e

/-- The carried sums after eight tiles, over all rows of the segment. -/
theorem all_rows (c : Dev nD) (S : Finset (Fin 16384)) (g : Fin 16)
    (hS : segRows (m ((c : Thread nD τ).loc main_arg2)) g = S) (j : Fin 1024) :
    Ideal.div (∑ r ∈ rowsUpTo m c g 8, weightUpTo m c g 8 r * nodeAt m c r j)
        ((∑ r ∈ rowsUpTo m c g 8, weightUpTo m c g 8 r) + eps)
      = Ideal.div (∑ r ∈ S, Ideal.exp (score m c r - shift (S.sup (score m c))) * nodeAt m c r j)
          ((∑ r ∈ S, Ideal.exp (score m c r - shift (S.sup (score m c)))) + eps) := by
  unfold weightUpTo maxUpTo
  rw [rowsUpTo_eight, hS]

/-- The grid's last point. -/
def lastPoint : Fin cfg0.N := ⟨7, lt_of_lt_of_eq (by decide) N_0.symm⟩

theorem lastPoint_val : lastPoint.val = 7 := rfl

/-- The array after the run is what the last tile writes out. -/
theorem array_at (c : Dev nD) (t : Fin cfg0.N) (ht : t.val = 7) : Value.G6 m c = (outsAt0 m c t.val t.isLt).1 := by
  obtain ⟨n, hn⟩ := t
  obtain rfl : n = 7 := ht
  exact array_last m c hn

/-- The array after the run, element by element. -/
theorem kernel_value (c : Dev nD) (S : Finset (Fin 16384)) (g : Fin 16)
    (hS : segRows (m ((c : Thread nD τ).loc main_arg2)) g = S) (j : Fin 1024) :
    Value.G6 m c (ix2 g j)
      = Ideal.div (∑ r ∈ S, Ideal.exp (score m c r - shift (S.sup (score m c))) * nodeAt m c r j)
          ((∑ r ∈ S, Ideal.exp (score m c r - shift (S.sup (score m c)))) + eps) := by
  rw [array_at m c lastPoint lastPoint_val, out_value m c lastPoint lastPoint_val g j, all_rows m c S g hS j]

end Cert.Pool
-- ==== Proof.RefParts.lean ====
/- The reference's result, cut into named stages: scores, largest score per segment, exponentials, denominators,
   weighted sum. -/
module

public import proofs.«01_k».proof.Proof.Gen.ReferenceIdeal.Run
public import Idealize.ShloMosaic.PureOps.Ideal

@[expose] public section

set_option maxRecDepth 16384

noncomputable section

namespace Cert.Pool

open Cert.ReferenceIdeal Cert.ReferenceIdeal.Gen Idealize.ShloMosaic Idealize.ShloMosaic.TcCoe Idealize.SL.Sem

/-- A vector of row indices with the negative ones moved up by `n`. -/
def wrapped (n : BitVec 32) (i : IVec S16384 32) : IVec S16384 32 :=
  select (cmpi .slt i (broadcastInDim S16384 ![] bcast_S_S16384 (constantI S_ 32 0#32)))
    (addi i (broadcastInDim S16384 ![] bcast_S_S16384 (constantI S_ 32 n))) i

/-- A vector as a column. -/
abbrev column {α : Type} (v : S16384.Idx → α) : S16384x1.Idx → α :=
  broadcastInDim S16384x1 ![0] bcast_S16384_S16384x1_0 v

/-- Where a label, moved up if negative, names a row of the table. -/
def inTable (lbl : IVec S16384 32) : IVec S16384 1 :=
  Host.reduce IntOp.andi
    (andi (cmpi .sge (column (wrapped 64#32 lbl)) (broadcastInDim S16384x1 ![] bcast_S_S16384x1 (constantI S_ 32 0#32)))
      (cmpi .sle (column (wrapped 64#32 lbl))
        (broadcastInDim S16384x1 ![0, 1] bcast_S1x1_S16384x1_0_1
          (broadcastInDim S1x1 ![1] bcast_S1_S1x1_1 (constantI S1 32 63#32)))))
    (constantI S_ 1 1#1) reducesTo_S16384x1_S16384_d1 h_S_

/-- The rows' label embeddings. -/
def labelInput (lbl : IVec S16384 32) (lt : FVec Ideal S64x512 .f32) : FVec Ideal S16384x512 .f32 :=
  select (broadcastInDim S16384x512 ![0] bcast_S16384_S16384x512_0 (inTable lbl))
    (Host.gather gather_S64x512_S16384x1_S16384x512_1_0_n_n_0_1_1512 lt (column (wrapped 64#32 lbl)))
    (broadcastInDim S16384x512 ![] bcast_S_S16384x512 (constant S_ .f32 0x7FC00000#32))

/-- The scores. -/
def refScores (x : FVec Ideal S16384x1024 .f32) (lbl : IVec S16384 32) (lt : FVec Ideal S64x512 .f32)
    (W : FVec Ideal S1536x1 .f32) (b : FVec Ideal S1 .f32) : FVec Ideal S16384 .f32 :=
  shapeCast _ (addf (Host.dotGeneral dot_S16384x1536_S1536x1_S16384x1_1_0_0_1_n_n none
      (concatenate S16384x1536 1 [⟨S16384x512, labelInput lbl lt⟩, ⟨S16384x1024, x⟩]
        concatenates_S16384x512_S16384x1024_S16384x1536_d1) W)
    (broadcastInDim S16384x1 ![0, 1] bcast_S1x1_S16384x1_0_1 (broadcastInDim S1x1 ![1] bcast_S1_S1x1_1 b)))
    shapeCasts_S16384x1_S16384

/-- The largest score of every segment. -/
def refMax (seg : IVec S16384 32) (s : FVec Ideal S16384 .f32) : FVec Ideal S16 .f32 :=
  Host.reduce FloatOps.maximumf
    (select (cmpi .eq (broadcastInDim S16384x16 ![0, 1] bcast_S16384x1_S16384x16_0_1 (column seg))
        (broadcastInDim S16384x16 ![0, 1] bcast_S1x16_S16384x16_0_1
          (broadcastInDim S1x16 ![1] bcast_S16_S1x16_1 (iotaInDim S16 32 0))))
      (broadcastInDim S16384x16 ![0, 1] bcast_S16384x1_S16384x16_0_1 (column s))
      (broadcastInDim S16384x16 ![] bcast_S_S16384x16 (id (constant S_ .f32 0xFF800000#32))))
    (constant S_ .f32 0xFF800000#32) reducesTo_S16384x16_S16_d0 h_S_

/-- The largest scores, zero in place of an infinite one. -/
def refShift (M : FVec Ideal S16 .f32) : FVec Ideal S16 .f32 :=
  select (cmpf .olt (Host.absf M) (broadcastInDim S16 ![] bcast_S_S16 (constant S_ .f32 0x7F800000#32))) M
    (broadcastInDim S16 ![] bcast_S_S16 (id (constant S_ .f32 0x00000000#32)))

/-- A value per segment, read for every row. -/
def perRow (seg : IVec S16384 32) (v : FVec Ideal S16 .f32) : FVec Ideal S16384 .f32 :=
  Host.gather gather_S16_S16384x1_S16384_n_0_n_n_0_1_1 v (column (wrapped 16#32 seg))

/-- The exponentials of the scores against their segment's value `z`. -/
def refExp (seg : IVec S16384 32) (s : FVec Ideal S16384 .f32) (z : FVec Ideal S16 .f32) : FVec Ideal S16384 .f32 :=
  Host.exp (subf s (perRow seg z))

/-- The sum of the rows' values over every segment. -/
def refDen (seg : IVec S16384 32) (e : FVec Ideal S16384 .f32) : FVec Ideal S16 .f32 :=
  Host.scatterAdd scatter_S16_S16384x1_S16384_n_0_0_1
    (broadcastInDim S16 ![] bcast_S_S16 (constant S_ .f32 0x00000000#32)) (column seg) e

/-- The normalized weights. -/
def refWeight (seg : IVec S16384 32) (e : FVec Ideal S16384 .f32) (D : FVec Ideal S16 .f32) : FVec Ideal S16384 .f32 :=
  Host.divf e (addf (perRow seg D) (broadcastInDim S16384 ![] bcast_S_S16384 (constant S_ .f32 0x3089705F#32)))

/-- The weighted sum of the rows over every segment. -/
def refPool (x : FVec Ideal S16384x1024 .f32) (seg : IVec S16384 32) (w : FVec Ideal S16384 .f32) :
    FVec Ideal S16x1024 .f32 :=
  Host.scatterAdd scatter_S16x1024_S16384x1_S16384x1024_1_0_0_1
    (broadcastInDim S16x1024 ![] bcast_S_S16x1024 (constant S_ .f32 0x00000000#32)) (column seg)
    (mulf (broadcastInDim S16384x1024 ![0, 1] bcast_S16384x1_S16384x1024_0_1 (column w)) x)

/-- The reference's result from the scores on. -/
def refFrom (x : FVec Ideal S16384x1024 .f32) (seg : IVec S16384 32) (s : FVec Ideal S16384 .f32) :
    FVec Ideal S16x1024 .f32 :=
  refPool x seg (refWeight seg (refExp seg s (refShift (refMax seg s)))
    (refDen seg (refExp seg s (refShift (refMax seg s)))))

/-- The reference's result is these stages of its arguments. -/
theorem res_stages (m : (ℓ : Loc nD τ sig) → Buf (Elt Ideal) ℓ) (c : Dev nD) :
    Value.res_out0 m c
      = refFrom (m ((c : Thread nD τ).loc main_arg0)) (m ((c : Thread nD τ).loc main_arg2))
          (refScores (m ((c : Thread nD τ).loc main_arg0)) (m ((c : Thread nD τ).loc main_arg1))
            (m ((c : Thread nD τ).loc main_arg3)) (m ((c : Thread nD τ).loc main_arg4))
            (m ((c : Thread nD τ).loc main_arg5))) := by
  unfold Value.res_out0 Value.res_main_v47 refFrom refPool refWeight refDen refExp perRow refShift refMax refScores
    labelInput inTable wrapped
  rfl

end Cert.Pool
-- ==== Proof.RefOps.lean ====
/- The reference's gathers and additive scatters, read element by element: a gather by an in-range index reads that
   element, and an additive scatter sums the rows whose index word is the element's number. -/
module

public import proofs.«01_k».proof.Proof.RefParts
public import Idealize.ShloMosaic.Lib.Pointwise
public import Idealize.ShloMosaic.Lib.Routing.Ops
public import Idealize.ShloMosaic.Lib.Routing.OpsSet
public import Idealize.ShloMosaic.Lib.Routing.OpsPair

@[expose] public section

set_option maxRecDepth 16384

noncomputable section

namespace Cert.Pool

open Cert.ReferenceIdeal Cert.ReferenceIdeal.Gen Idealize.ShloMosaic Idealize.ShloMosaic.Routing Idealize.SL.Sem

/-- A word reads, signed, as the small number `n` exactly when it is the word of `n`. -/
theorem toInt_eq_iff {n : ℕ} (h : n < 64) (w : BitVec 32) : w.toInt = (n : ℤ) ↔ w = BitVec.ofNat 32 n := by
  constructor
  · intro e
    apply BitVec.eq_of_toNat_eq
    rw [BitVec.toNat_ofNat]
    have := w.isLt
    rw [BitVec.toInt] at e
    split at e <;> omega
  · rintro rfl
    exact StableHlo.Predicate.toInt_ofNat_small _ (by omega)

/-- A column reads the vector. -/
theorem column_apply {α : Type} (v : S16384.Idx → α) (r : Fin 16384) : column v (ix2 r 0) = v (ix1 r) := by
  unfold column
  pointwise

/-- A small index is not moved. -/
theorem wrapped_apply (n : BitVec 32) (i : IVec S16384 32) (r : Fin 16384) {k : ℕ} (hk : k < 64)
    (h : i (ix1 r) = BitVec.ofNat 32 k) : wrapped n i (ix1 r) = BitVec.ofNat 32 k := by
  unfold wrapped
  pointwise
  rw [wrap_of_lt _ _ (by rw [h, BitVec.toNat_ofNat]; omega), h]

/-- A row of segment `g` reads the segment's value. -/
theorem perRow_apply (seg : IVec S16384 32) (v : FVec Ideal S16 .f32) (r : Fin 16384) (g : Fin 16)
    (h : seg (ix1 r) = BitVec.ofNat 32 g.val) : perRow seg v (ix1 r) = v (ix1 g) := by
  unfold perRow
  exact gather_take1 _ rfl rfl rfl rfl v _ r g ((column_apply _ r).trans (wrapped_apply _ seg r (by omega) h)) (by decide)

/-- A row with label `l` gathers row `l` of the table. -/
theorem table_gather (lbl : IVec S16384 32) (lt : FVec Ideal S64x512 .f32) (r : Fin 16384) (k : Fin 512) (l : Fin 64)
    (h : lbl (ix1 r) = BitVec.ofNat 32 l.val) :
    Host.gather gather_S64x512_S16384x1_S16384x512_1_0_n_n_0_1_1512 lt (column (wrapped 64#32 lbl)) (ix2 r k)
      = lt (ix2 l k) :=
  gather_row _ rfl rfl rfl rfl rfl lt _ r k l ((column_apply _ r).trans (wrapped_apply _ lbl r l.isLt h)) (by decide)

/-- Row `r`'s value goes to element `g` of the vector exactly when the row's index word is `g`. -/
theorem lands_vec (seg : IVec S16384 32) (r : Fin 16384) (g : Fin 16) :
    scatter_S16_S16384x1_S16384_n_0_0_1.resultIdx? (ix1 r) (column seg) = some (ix1 g)
      ↔ seg (ix1 r) = BitVec.ofNat 32 g.val := by
  rw [resultIdx?_eq_some, ← toInt_eq_iff (by omega : g.val < 64), ← column_apply seg r]
  have hs : scatter_S16_S16384x1_S16384_n_0_0_1.start (ix1 r) (column seg) 0 = (column seg (ix2 r 0)).toInt := by
    refine congrArg (fun i => (column seg i).toInt) (funext fun b => ?_)
    match b with
    | ⟨0, _⟩ => rfl
    | ⟨1, _⟩ => rfl
  have hw : scatter_S16_S16384x1_S16384_n_0_0_1.window (ix1 r) 0 = 0 := rfl
  constructor
  · intro h
    have h0 := h 0
    rw [hs, hw] at h0
    simpa using h0
  · intro h a
    match a with
    | ⟨0, _⟩ => exact (congrArg₂ (· + ·) hs (congrArg Nat.cast hw)).trans (by simpa using h)

/-- Element `(r, k)` goes to element `(g, j)` of the matrix exactly when the row's index word is `g` and the columns
    agree. -/
theorem lands_mat (seg : IVec S16384 32) (r : Fin 16384) (k : Fin 1024) (g : Fin 16) (j : Fin 1024) :
    scatter_S16x1024_S16384x1_S16384x1024_1_0_0_1.resultIdx? (ix2 r k) (column seg) = some (ix2 g j)
      ↔ seg (ix1 r) = BitVec.ofNat 32 g.val ∧ k = j := by
  rw [resultIdx?_eq_some, ← toInt_eq_iff (by omega : g.val < 64), ← column_apply seg r]
  have hs : scatter_S16x1024_S16384x1_S16384x1024_1_0_0_1.start (ix2 r k) (column seg) 0 = (column seg (ix2 r 0)).toInt := by
    refine congrArg (fun i => (column seg i).toInt) (funext fun b => ?_)
    match b with
    | ⟨0, _⟩ => rfl
    | ⟨1, _⟩ => rfl
  have hs1 : scatter_S16x1024_S16384x1_S16384x1024_1_0_0_1.start (ix2 r k) (column seg) 1 = 0 := rfl
  have hw : scatter_S16x1024_S16384x1_S16384x1024_1_0_0_1.window (ix2 r k) 0 = 0 := rfl
  have hw1 : scatter_S16x1024_S16384x1_S16384x1024_1_0_0_1.window (ix2 r k) 1 = k.val := rfl
  constructor
  · intro h
    have h0 := h 0
    have h1 := h 1
    rw [hs, hw] at h0
    rw [hs1, hw1] at h1
    exact ⟨by simpa using h0, Fin.ext (by simpa using h1)⟩
  · rintro ⟨h, rfl⟩ a
    match a with
    | ⟨0, _⟩ => exact (congrArg₂ (· + ·) hs (congrArg Nat.cast hw)).trans (by simpa using h)
    | ⟨1, _⟩ => exact (congrArg₂ (· + ·) hs1 (congrArg Nat.cast hw1)).trans (by simp)

/-- An additive scatter into a zero vector sums the segment's rows. -/
theorem refDen_apply (seg : IVec S16384 32) (e : FVec Ideal S16384 .f32) (g : Fin 16) :
    refDen seg e (ix1 g)
      = ∑ r ∈ Finset.univ.filter (fun r : Fin 16384 => seg (ix1 r) = BitVec.ofNat 32 g.val), (e (ix1 r) : EReal) := by
  unfold refDen
  show (_ : EReal) + ∑ j ∈ Finset.univ.filter _, _ = _
  rw [Finset.sum_filter, sum_idx1, Finset.sum_filter]
  simp only [lands_vec]
  pointwise

/-- An additive scatter of weighted rows into a zero matrix sums the segment's rows. -/
theorem refPool_apply (x : FVec Ideal S16384x1024 .f32) (seg : IVec S16384 32) (w : FVec Ideal S16384 .f32)
    (g : Fin 16) (j : Fin 1024) :
    refPool x seg w (ix2 g j)
      = ∑ r ∈ Finset.univ.filter (fun r : Fin 16384 => seg (ix1 r) = BitVec.ofNat 32 g.val),
          (w (ix1 r) : EReal) * x (ix2 r j) := by
  unfold refPool
  show (_ : EReal) + ∑ j ∈ Finset.univ.filter _, _ = _
  rw [Finset.sum_filter, sum_idx2, Finset.sum_filter]
  simp only [lands_mat]
  pointwise
  refine Finset.sum_congr rfl fun r _ => ?_
  by_cases h : seg (ix1 r) = BitVec.ofNat 32 g.val
  · simp [h]
  · simp [h]

end Cert.Pool
-- ==== Proof.RefValue.lean ====
/- What the reference computes from the scores on: per segment, the sum of the rows weighted by their normalized
   exponentials. -/
module

public import proofs.«01_k».proof.Proof.RefOps
public import proofs.«01_k».proof.Proof.Tile

@[expose] public section

set_option maxRecDepth 16384

noncomputable section

namespace Cert.Pool

open Cert.ReferenceIdeal Cert.ReferenceIdeal.Gen Idealize.ShloMosaic Idealize.SL.Sem

/-- The bit pattern of plus infinity. -/
theorem ofBits_posInf : Ideal.ofBits .f32 0x7F800000#32 = ⊤ := by
  simp [Ideal.ofBits, Ideal.ieee]

/-- The test of a magnitude against plus infinity keeps the finite values and puts zero in place of the infinite ones. -/
theorem keep_finite (M : EReal) :
    (if max M (-M) < ⊤ then M else 0) = if M = ⊥ ∨ M = ⊤ then 0 else M := by
  induction M with
  | bot => simp
  | top => simp
  | coe r =>
    have h : max (r : EReal) (-(r : EReal)) < ⊤ :=
      max_lt (EReal.coe_lt_top r) (by rw [← EReal.coe_neg]; exact EReal.coe_lt_top _)
    simp [h]

/-- The rows the reference counts to segment `g`. -/
def refRows (seg : IVec S16384 32) (g : Fin 16) : Finset (Fin 16384) :=
  Finset.univ.filter fun r => seg (ix1 r) = BitVec.ofNat 32 g.val

/-- The largest score of a segment. -/
theorem refMax_apply (seg : IVec S16384 32) (s : FVec Ideal S16384 .f32) (g : Fin 16) :
    refMax seg s (ix1 g) = (refRows seg g).sup fun r => (s (ix1 r) : EReal) := by
  unfold refMax refRows
  pointwise
  simp only [select_eq, ofBits_negInf]
  exact fold_max_eq_sup _ _

/-- The largest score, zero in place of an infinite one. -/
theorem refShift_apply (M : FVec Ideal S16 .f32) (g : Fin 16) :
    refShift M (ix1 g) = if (M (ix1 g) : EReal) = ⊥ ∨ (M (ix1 g) : EReal) = ⊤ then (0 : EReal) else M (ix1 g) := by
  unfold refShift
  pointwise
  rw [ofBits_posInf]
  refine (if_congr Iff.rfl rfl ?_).trans (keep_finite _)
  show Ideal.ofBits .f32 0x00000000#32 = 0
  simp [Ideal.ofBits, Ideal.ieee]

/-- The exponential of a row's score against its segment's value. -/
theorem refExp_apply (seg : IVec S16384 32) (s : FVec Ideal S16384 .f32) (z : FVec Ideal S16 .f32) (g : Fin 16)
    (r : Fin 16384) (h : seg (ix1 r) = BitVec.ofNat 32 g.val) :
    refExp seg s z (ix1 r) = Ideal.exp ((s (ix1 r) : EReal) - z (ix1 g)) := by
  unfold refExp
  pointwise
  rw [perRow_apply seg z r g h]

/-- The normalized weight of a row of segment `g`. -/
theorem refWeight_apply (seg : IVec S16384 32) (e : FVec Ideal S16384 .f32) (D : FVec Ideal S16 .f32) (g : Fin 16)
    (r : Fin 16384) (h : seg (ix1 r) = BitVec.ofNat 32 g.val) :
    refWeight seg e D (ix1 r) = Ideal.div (e (ix1 r)) ((D (ix1 g) : EReal) + eps) := by
  unfold refWeight eps
  pointwise
  rw [perRow_apply seg D r g h]

/-- The reference's result from the scores on, element by element. -/
theorem refFrom_apply (x : FVec Ideal S16384x1024 .f32) (seg : IVec S16384 32) (s : FVec Ideal S16384 .f32)
    (g : Fin 16) (j : Fin 1024) (z : EReal) (hz : refShift (refMax seg s) (ix1 g) = z) :
    refFrom x seg s (ix2 g j)
      = ∑ r ∈ refRows seg g,
          Ideal.div (Ideal.exp ((s (ix1 r) : EReal) - z))
            ((∑ r ∈ refRows seg g, Ideal.exp ((s (ix1 r) : EReal) - z)) + eps) * x (ix2 r j) := by
  have he : ∀ r ∈ refRows seg g,
      refExp seg s (refShift (refMax seg s)) (ix1 r) = Ideal.exp ((s (ix1 r) : EReal) - z) := fun r hr => by
    rw [refExp_apply seg s _ g r (Finset.mem_filter.mp hr).2, hz]
  have hD : refDen seg (refExp seg s (refShift (refMax seg s))) (ix1 g)
      = ∑ r ∈ refRows seg g, Ideal.exp ((s (ix1 r) : EReal) - z) :=
    (refDen_apply _ _ _).trans (Finset.sum_congr rfl he)
  unfold refFrom
  refine (refPool_apply _ _ _ _ _).trans (Finset.sum_congr rfl fun r hr => ?_)
  rw [refWeight_apply seg _ _ g r (Finset.mem_filter.mp hr).2, hD, he r hr]

end Cert.Pool
-- ==== Proof.RefScore.lean ====
/- The reference's score of a row whose label names a row of the table, equal to the score stated over the arguments. -/
module

public import proofs.«01_k».proof.Proof.RefOps
public import proofs.«01_k».proof.Proof.Rows

@[expose] public section

set_option maxRecDepth 16384

noncomputable section

namespace Cert.Pool

open Cert.ReferenceIdeal Cert.ReferenceIdeal.Gen Idealize.ShloMosaic Idealize.SL.Sem

/-- A label that names a row of the table passes the range test. -/
theorem inTable_apply (lbl : IVec S16384 32) (r : Fin 16384) (l : Fin 64) (h : lbl (ix1 r) = BitVec.ofNat 32 l.val) :
    inTable lbl (ix1 r) = 1#1 := by
  have hw := wrapped_apply 64#32 lbl r l.isLt h
  have hl := l.isLt
  unfold inTable
  pointwise
  simp only [hw]
  rw [WordCmp.cmpi_sge_ofNat (by omega) (by decide), WordCmp.cmpi_sle_ofNat (by omega) (by decide)]
  rw [decide_eq_true (Nat.zero_le _), decide_eq_true (by omega)]
  rfl

/-- The label embedding of a row with label `l` is row `l` of the table. -/
theorem labelInput_apply (lbl : IVec S16384 32) (lt : FVec Ideal S64x512 .f32) (r : Fin 16384) (k : Fin 512) (l : Fin 64)
    (h : lbl (ix1 r) = BitVec.ofNat 32 l.val) : labelInput lbl lt (ix2 r k) = lt (ix2 l k) := by
  unfold labelInput
  pointwise
  rw [inTable_apply lbl r l h, table_gather lbl lt r k l h]
  rfl

/-- Distinct labels of the table are distinct words. -/
theorem label_word_iff (l l' : Fin 64) : BitVec.ofNat 32 l.val = BitVec.ofNat 32 l'.val ↔ l' = l := by
  constructor
  · intro e
    have e' := congrArg BitVec.toNat e
    simp only [BitVec.toNat_ofNat] at e'
    exact Fin.ext (by omega)
  · rintro rfl; rfl

/-- The reference's score of a row. -/
theorem refScores_apply (x : FVec Ideal S16384x1024 .f32) (lbl : IVec S16384 32) (lt : FVec Ideal S64x512 .f32)
    (W : FVec Ideal S1536x1 .f32) (b : FVec Ideal S1 .f32) (r : Fin 16384) (l : Fin 64)
    (h : lbl (ix1 r) = BitVec.ofNat 32 l.val) : refScores x lbl lt W b (ix1 r) = rowScore x lbl lt W b r := by
  unfold refScores rowScore
  pointwise
  simp only [labelInput_apply lbl lt r _ l h, h, label_word_iff, mul_ite, mul_one, mul_zero,
    Finset.sum_ite_eq', Finset.mem_univ, if_true]
  refine congrArg (· + (b (ix1 0) : EReal)) ?_
  rw [add_comm]
  exact congrArg₂ (· + ·) (Finset.sum_congr rfl fun k _ => mul_comm _ _) rfl

end Cert.Pool
-- ==== Proof.Equation.lean ====
/- The kernel's array is the reference's result, where every label names a row of the table. -/
module

public import proofs.«01_k».proof.Pre_labels_in_range
public import proofs.«01_k».proof.Proof.Fold
public import proofs.«01_k».proof.Proof.RefValue
public import proofs.«01_k».proof.Proof.RefScore

@[expose] public section

set_option maxRecDepth 16384

noncomputable section

namespace Cert.Pool

open Idealize.ShloMosaic Idealize.ShloMosaic.TcCoe Idealize.SL.Sem

/-- The precondition's side conditions. -/
theorem labels_facts : Cert.Pre_labels_in_range.Facts := ⟨by decide⟩

/-- The precondition says of every row that its label names a row of the table. -/
theorem label_of_pre [Cert.Pre_labels_in_range.Facts] (x : FVec Ideal Cert.Pre_labels_in_range.S16384x1024 .f32)
    (lbl seg : IVec Cert.Pre_labels_in_range.S16384 32) (lt : FVec Ideal Cert.Pre_labels_in_range.S64x512 .f32)
    (W : FVec Ideal Cert.Pre_labels_in_range.S1536x1 .f32) (b : FVec Ideal Cert.Pre_labels_in_range.S1 .f32)
    (h : Cert.Pre_labels_in_range.fn x lbl seg lt W b = fun _ => 1#1) (r : Fin 16384) :
    ∃ l : Fin 64, lbl (ix1 r) = BitVec.ofNat 32 l.val := by
  have e := congrFun h (ix1 r)
  have e' : IntOp.andi (IntOp.cmpi .sge (lbl (ix1 r)) 0#32) (IntOp.cmpi .slt (lbl (ix1 r)) (BitVec.ofNat 32 64)) = 1#1 := by
    rw [← e]; unfold Cert.Pre_labels_in_range.fn
    pointwise
  rw [WordCmp.andi_sge_zero_slt_ofNat (by decide), WordCmp.ofBool_decide_eq_one_iff] at e'
  exact ⟨⟨(lbl (ix1 r)).toNat, e'⟩, by rw [BitVec.ofNat_toNat, BitVec.setWidth_eq]⟩

/-- The kernel's array and the reference's result of the same arguments agree, element by element. -/
theorem arrays_agree (m : (ℓ : Loc Cert.KernelIdeal.nD Cert.KernelIdeal.τ Cert.KernelIdeal.sig) → Buf (Elt Ideal) ℓ)
    (c : Dev Cert.KernelIdeal.nD)
    (hl : ∀ r : Fin 16384, ∃ l : Fin 64,
      (m ((c : Thread Cert.KernelIdeal.nD Cert.KernelIdeal.τ).loc Cert.KernelIdeal.main_arg1) (ix1 r) : BitVec 32)
        = BitVec.ofNat 32 l.val) :
    Cert.KernelIdeal.Value.G6 m c
      = refFrom (m ((c : Thread Cert.KernelIdeal.nD Cert.KernelIdeal.τ).loc Cert.KernelIdeal.main_arg0))
          (m ((c : Thread Cert.KernelIdeal.nD Cert.KernelIdeal.τ).loc Cert.KernelIdeal.main_arg2))
          (refScores (m ((c : Thread Cert.KernelIdeal.nD Cert.KernelIdeal.τ).loc Cert.KernelIdeal.main_arg0))
            (m ((c : Thread Cert.KernelIdeal.nD Cert.KernelIdeal.τ).loc Cert.KernelIdeal.main_arg1))
            (m ((c : Thread Cert.KernelIdeal.nD Cert.KernelIdeal.τ).loc Cert.KernelIdeal.main_arg3))
            (m ((c : Thread Cert.KernelIdeal.nD Cert.KernelIdeal.τ).loc Cert.KernelIdeal.main_arg4))
            (m ((c : Thread Cert.KernelIdeal.nD Cert.KernelIdeal.τ).loc Cert.KernelIdeal.main_arg5))) := by
  funext i
  obtain ⟨g, j, rfl⟩ : ∃ (g : Fin 16) (j : Fin 1024), i = ix2 g j := ⟨i 0, i 1, eq_ix2 i⟩
  have hs : ∀ r, refScores (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5)) (ix1 r) = score m c r := fun r => by
    obtain ⟨l, e⟩ := hl r
    exact refScores_apply _ _ _ _ _ r l e
  rw [refFrom_apply _ _ _ g j _ rfl, refShift_apply, refMax_apply]
  simp only [hs]
  rw [kernel_value m c _ g rfl j]
  exact pooled_eq _ (score m c) (fun r => nodeAt m c r j) _ eps rfl eps_pos eps_ne_top _ rfl

end Cert.Pool
-- ==== Proof.lean ====
/- The proof of the certificate's claim: the kernel over floats and over exact arithmetic and the reference each run,
   leave their arguments unchanged and end quiet; and where every label names a row of the table, the kernel over exact
   arithmetic and the reference end with equal results. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments unchanged and ends quiet. -/
theorem reference_quiet : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where every label names a row of the table, the kernel and the reference end with equal results. -/
theorem results_equal :
    algebraic_KernelIdeal_ReferenceIdeal_pre_labels_in_range (hPre_labels_in_range := Cert.Pool.labels_facts) := by
  letI := Cert.Pool.labels_facts
  intro m ρ m' ρ' hpre hagree
  refine ⟨_, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5⟩ := hagree c
  refine ((h c).1.trans (Cert.Pool.res_stages m' c)).trans ?_
  rw [a0, a1, a2, a3, a4, a5]
  exact (Cert.Pool.arrays_agree m c (Cert.Pool.label_of_pre _ _ _ _ _ _ (hpre c))).symm

theorem claim : Cert.Claim :=
  ⟨Cert.Kernel.Gen.facts, Cert.KernelIdeal.Gen.facts, Cert.ReferenceIdeal.Gen.facts, Cert.Pool.labels_facts,
    fun m ρ _ => Cert.Kernel.Gen.frame m ρ, fun m ρ _ => Cert.KernelIdeal.Gen.frame m ρ,
    fun m ρ _ => Cert.KernelIdeal.Gen.frame m ρ, reference_quiet, fun m ρ _ => reference_quiet m ρ trivial,
    (trivial : preserves_Kernel_KernelIdeal), results_equal⟩

end Cert.Proof

end
